-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v12) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x4096x64 : Shape := ⟨3, ![64, 4096, 64]⟩
abbrev S64x256x64 : Shape := ⟨3, ![64, 256, 64]⟩
abbrev S2x4096x64 : Shape := ⟨3, ![2, 4096, 64]⟩
abbrev S2x256x64 : Shape := ⟨3, ![2, 256, 64]⟩
abbrev S8192x64 : Shape := ⟨2, ![8192, 64]⟩
abbrev S512x16x64 : Shape := ⟨3, ![512, 16, 64]⟩
abbrev S512x1x64 : Shape := ⟨3, ![512, 1, 64]⟩
abbrev S512x64 : Shape := ⟨2, ![512, 64]⟩
abbrev S8191x64 : Shape := ⟨2, ![8191, 64]⟩
abbrev S1x64 : Shape := ⟨2, ![1, 64]⟩
abbrev S64x256x64x1 : Shape := ⟨4, ![64, 256, 64, 1]⟩
abbrev S64x256x64x3 : Shape := ⟨4, ![64, 256, 64, 3]⟩
abbrev S64x256x16x64 : Shape := ⟨4, ![64, 256, 16, 64]⟩
abbrev S64x256x15x64 : Shape := ⟨4, ![64, 256, 15, 64]⟩
abbrev S64x256x64x15 : Shape := ⟨4, ![64, 256, 64, 15]⟩

abbrev nBuf : Space → Nat
  | .hbm => 13
  | .vmem => 10
  | .smem => 0
  | _ => 0

abbrev bufTy : (tb : Table) → Fin (tcTables nBuf tb) → BufTy
  | .hbm, ⟨0, _⟩ => ⟨S64x4096x64, .f32⟩
  | .hbm, ⟨1, _⟩ => ⟨S64x4096x64, .i8⟩
  | .hbm, ⟨2, _⟩ => ⟨S64x256x64, .f32⟩
  | .hbm, ⟨3, _⟩ => ⟨S64x256x64, .f32⟩
  | .hbm, ⟨4, _⟩ => ⟨S64x256x64, .f32⟩
  | .hbm, ⟨5, _⟩ => ⟨S64x256x64x1, .f32⟩
  | .hbm, ⟨6, _⟩ => ⟨S64x256x64x1, .f32⟩
  | .hbm, ⟨7, _⟩ => ⟨S64x256x64x1, .f32⟩
  | .hbm, ⟨8, _⟩ => ⟨S64x256x64x3, .f32⟩
  | .hbm, ⟨9, _⟩ => ⟨S64x256x16x64, .i8⟩
  | .hbm, ⟨10, _⟩ => ⟨S64x256x15x64, .i8⟩
  | .hbm, ⟨11, _⟩ => ⟨S64x256x64x15, .i8⟩
  | .hbm, ⟨12, _⟩ => ⟨S64x256x64x15, .i32⟩
  | .local _ .vmem, ⟨0, _⟩ => ⟨S2x4096x64, .f32⟩
  | .local _ .vmem, ⟨1, _⟩ => ⟨S2x4096x64, .f32⟩
  | .local _ .vmem, ⟨2, _⟩ => ⟨S2x4096x64, .i8⟩
  | .local _ .vmem, ⟨3, _⟩ => ⟨S2x4096x64, .i8⟩
  | .local _ .vmem, ⟨4, _⟩ => ⟨S2x256x64, .f32⟩
  | .local _ .vmem, ⟨5, _⟩ => ⟨S2x256x64, .f32⟩
  | .local _ .vmem, ⟨6, _⟩ => ⟨S2x256x64, .f32⟩
  | .local _ .vmem, ⟨7, _⟩ => ⟨S2x256x64, .f32⟩
  | .local _ .vmem, ⟨8, _⟩ => ⟨S2x256x64, .f32⟩
  | .local _ .vmem, ⟨9, _⟩ => ⟨S2x256x64, .f32⟩
  | _, _ => ⟨S64x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev main_v0_3 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x4096x64 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S64x4096x64 : Shape := ⟨3, ![64, 4096, 64]⟩
abbrev S64x256x16x64 : Shape := ⟨4, ![64, 256, 16, 64]⟩
abbrev S64x256x1x64 : Shape := ⟨4, ![64, 256, 1, 64]⟩
abbrev S64x256x64 : Shape := ⟨3, ![64, 256, 64]⟩
abbrev S_ : Shape := ⟨0, ![]⟩
abbrev S64x256x64x1 : Shape := ⟨4, ![64, 256, 64, 1]⟩
abbrev S64x256x64x3 : Shape := ⟨4, ![64, 256, 64, 3]⟩
abbrev S64x256x15x64 : Shape := ⟨4, ![64, 256, 15, 64]⟩
abbrev S98 : Shape := ⟨1, ![98]⟩
abbrev S1 : Shape := ⟨1, ![1]⟩
abbrev S99 : Shape := ⟨1, ![99]⟩
abbrev S64x256x15x64x1 : Shape := ⟨5, ![64, 256, 15, 64, 1]⟩
abbrev S1x1x1x1x99 : Shape := ⟨5, ![1, 1, 1, 1, 99]⟩
abbrev S64x256x15x64x99 : Shape := ⟨5, ![64, 256, 15, 64, 99]⟩
abbrev S64x256x64x15 : Shape := ⟨4, ![64, 256, 64, 15]⟩

abbrev nBuf : Space → Nat
  | .hbm => 82
  | .vmem => 0
  | .smem => 0
  | _ => 0

abbrev bufTy : (tb : Table) → Fin (tcTables nBuf tb) → BufTy
  | .hbm, ⟨0, _⟩ => ⟨S64x4096x64, .f32⟩
  | .hbm, ⟨1, _⟩ => ⟨S64x256x16x64, .f32⟩
  | .hbm, ⟨2, _⟩ => ⟨S64x256x1x64, .f32⟩
  | .hbm, ⟨3, _⟩ => ⟨S64x256x64, .f32⟩
  | .hbm, ⟨4, _⟩ => ⟨S_, .f32⟩
  | .hbm, ⟨5, _⟩ => ⟨S64x256x64, .f32⟩
  | .hbm, ⟨6, _⟩ => ⟨S_, .f32⟩
  | .hbm, ⟨7, _⟩ => ⟨S64x256x64, .f32⟩
  | .hbm, ⟨8, _⟩ => ⟨S64x256x64, .f32⟩
  | .hbm, ⟨9, _⟩ => ⟨S_, .i32⟩
  | .hbm, ⟨10, _⟩ => ⟨S_, .f32⟩
  | .hbm, ⟨11, _⟩ => ⟨S64x256x64, .f32⟩
  | .hbm, ⟨12, _⟩ => ⟨S64x256x1x64, .f32⟩
  | .hbm, ⟨13, _⟩ => ⟨S_, .f32⟩
  | .hbm, ⟨14, _⟩ => ⟨S64x256x1x64, .f32⟩
  | .hbm, ⟨15, _⟩ => ⟨S64x256x1x64, .f32⟩
  | .hbm, ⟨16, _⟩ => ⟨S64x256x16x64, .f32⟩
  | .hbm, ⟨17, _⟩ => ⟨S64x256x16x64, .f32⟩
  | .hbm, ⟨18, _⟩ => ⟨S64x256x16x64, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S64x256x64, .f32⟩
  | .hbm, ⟨24, _⟩ => ⟨S64x256x64, .f32⟩
  | .hbm, ⟨25, _⟩ => ⟨S64x256x64, .f32⟩
  | .hbm, ⟨26, _⟩ => ⟨S_, .f32⟩
  | .hbm, ⟨27, _⟩ => ⟨S_, .i1⟩
  | .hbm, ⟨28, _⟩ => ⟨S_, .f32⟩
  | .hbm, ⟨29, _⟩ => ⟨S_, .f32⟩
  | .hbm, ⟨30, _⟩ => ⟨S64x256x64, .f32⟩
  | .hbm, ⟨31, _⟩ => ⟨S64x256x64, .f32⟩
  | .hbm, ⟨32, _⟩ => ⟨S64x256x64, .f32⟩
  | .hbm, ⟨33, _⟩ => ⟨S_, .f32⟩
  | .hbm, ⟨34, _⟩ => ⟨S64x256x64, .f32⟩
  | .hbm, ⟨35, _⟩ => ⟨S64x256x64, .f32⟩
  | .hbm, ⟨36, _⟩ => ⟨S64x256x64x1, .f32⟩
  | .hbm, ⟨37, _⟩ => ⟨S64x256x64x1, .f32⟩
  | .hbm, ⟨38, _⟩ => ⟨S64x256x64x1, .f32⟩
  | .hbm, ⟨39, _⟩ => ⟨S64x256x64x3, .f32⟩
  | .hbm, ⟨40, _⟩ => ⟨S64x256x15x64, .f32⟩
  | .hbm, ⟨41, _⟩ => ⟨S64x256x15x64, .f32⟩
  | .hbm, ⟨42, _⟩ => ⟨S64x256x15x64, .f32⟩
  | .hbm, ⟨43, _⟩ => ⟨S64x256x15x64, .f32⟩
  | .hbm, ⟨44, _⟩ => ⟨S64x256x15x64, .f32⟩
  | .hbm, ⟨45, _⟩ => ⟨S_, .f32⟩
  | .hbm, ⟨46, _⟩ => ⟨S_, .f32⟩
  | .hbm, ⟨47, _⟩ => ⟨S64x256x15x64, .f32⟩
  | .hbm, ⟨48, _⟩ => ⟨S64x256x15x64, .f32⟩
  | .hbm, ⟨49, _⟩ => ⟨S64x256x15x64, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S98, .f32⟩
  | .hbm, ⟨58, _⟩ => ⟨S_, .f32⟩
  | .hbm, ⟨59, _⟩ => ⟨S98, .f32⟩
  | .hbm, ⟨60, _⟩ => ⟨S98, .f32⟩
  | .hbm, ⟨61, _⟩ => ⟨S1, .f32⟩
  | .hbm, ⟨62, _⟩ => ⟨S_, .f32⟩
  | .hbm, ⟨63, _⟩ => ⟨S98, .f32⟩
  | .hbm, ⟨64, _⟩ => ⟨S98, .f32⟩
  | .hbm, ⟨65, _⟩ => ⟨S98, .f32⟩
  | .hbm, ⟨66, _⟩ => ⟨S98, .f32⟩
  | .hbm, ⟨67, _⟩ => ⟨S1, .f32⟩
  | .hbm, ⟨68, _⟩ => ⟨S98, .f32⟩
  | .hbm, ⟨69, _⟩ => ⟨S98, .f32⟩
  | .hbm, ⟨70, _⟩ => ⟨S98, .f32⟩
  | .hbm, ⟨71, _⟩ => ⟨S1, .f32⟩
  | .hbm, ⟨72, _⟩ => ⟨S99, .f32⟩
  | .hbm, ⟨73, _⟩ => ⟨S64x256x15x64x1, .f32⟩
  | .hbm, ⟨74, _⟩ => ⟨S1x1x1x1x99, .f32⟩
  | .hbm, ⟨75, _⟩ => ⟨S64x256x15x64x99, .f32⟩
  | .hbm, ⟨76, _⟩ => ⟨S64x256x15x64x99, .f32⟩
  | .hbm, ⟨77, _⟩ => ⟨S64x256x15x64x99, .i1⟩
  | .hbm, ⟨78, _⟩ => ⟨S64x256x15x64x99, .i32⟩
  | .hbm, ⟨79, _⟩ => ⟨S_, .i32⟩
  | .hbm, ⟨80, _⟩ => ⟨S64x256x15x64, .i32⟩
  | .hbm, ⟨81, _⟩ => ⟨S64x256x64x15, .i32⟩
  | _, _ => ⟨S64x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_call0_cst : Ref sig .tc := ⟨.hbm, 10, rfl⟩
abbrev main_call0_call0_v0 : Ref sig .tc := ⟨.hbm, 11, rfl⟩
abbrev main_call0_call0_v1 : Ref sig .tc := ⟨.hbm, 12, rfl⟩
abbrev main_call0_call0_cst_0 : Ref sig .tc := ⟨.hbm, 13, rfl⟩
abbrev main_call0_call0_v2 : Ref sig .tc := ⟨.hbm, 14, rfl⟩
abbrev main_call0_call0_v3 : Ref sig .tc := ⟨.hbm, 15, rfl⟩
abbrev main_call0_call0_v4 : Ref sig .tc := ⟨.hbm, 16, rfl⟩
abbrev main_call0_call0_v5 : Ref sig .tc := ⟨.hbm, 17, rfl⟩
abbrev main_call0_call0_v6 : Ref sig .tc := ⟨.hbm, 18, rfl⟩
abbrev main_call0_call0_v7 : Ref sig .tc := ⟨.hbm, 19, rfl⟩
abbrev main_call0_call0_cst_1 : Ref sig .tc := ⟨.hbm, 20, rfl⟩
abbrev main_call0_call0_v8 : Ref sig .tc := ⟨.hbm, 21, rfl⟩
abbrev main_call0_call0_cst_2 : Ref sig .tc := ⟨.hbm, 22, rfl⟩
abbrev main_call0_call0_v9 : Ref sig .tc := ⟨.hbm, 23, rfl⟩
abbrev main_call0_call0_v10 : Ref sig .tc := ⟨.hbm, 24, rfl⟩
abbrev main_call0_call0_v11 : Ref sig .tc := ⟨.hbm, 25, rfl⟩
abbrev main_call0_call0_cst_3 : Ref sig .tc := ⟨.hbm, 26, rfl⟩
abbrev main_call0_call0_v12 : Ref sig .tc := ⟨.hbm, 27, rfl⟩
abbrev main_call0_call0_cst_4 : Ref sig .tc := ⟨.hbm, 28, rfl⟩
abbrev main_call0_call0_call0_v0 : Ref sig .tc := ⟨.hbm, 29, rfl⟩
abbrev main_call0_call0_call0_v1 : Ref sig .tc := ⟨.hbm, 30, rfl⟩
abbrev main_call0_v0 : Ref sig .tc := ⟨.hbm, 31, rfl⟩
abbrev main_v6 : Ref sig .tc := ⟨.hbm, 32, rfl⟩
abbrev main_cst_1 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_cst_2 : Ref sig .tc := ⟨.hbm, 45, rfl⟩
abbrev main_call1_v0 : Ref sig .tc := ⟨.hbm, 46, rfl⟩
abbrev main_call1_v1 : Ref sig .tc := ⟨.hbm, 47, rfl⟩
abbrev main_v18 : Ref sig .tc := ⟨.hbm, 48, rfl⟩
abbrev main_v19 : Ref sig .tc := ⟨.hbm, 49, rfl⟩
abbrev main_cst_3 : Ref sig .tc := ⟨.hbm, 50, rfl⟩
abbrev main_cst_4 : Ref sig .tc := ⟨.hbm, 51, rfl⟩
abbrev main_v20 : Ref sig .tc := ⟨.hbm, 52, rfl⟩
abbrev main_v21 : Ref sig .tc := ⟨.hbm, 53, rfl⟩
abbrev main_call2_v0 : Ref sig .tc := ⟨.hbm, 54, rfl⟩
abbrev main_call2_cst : Ref sig .tc := ⟨.hbm, 55, rfl⟩
abbrev main_call2_v1 : Ref sig .tc := ⟨.hbm, 56, rfl⟩
abbrev main_call2_v2 : Ref sig .tc := ⟨.hbm, 57, rfl⟩
abbrev main_call2_cst_0 : Ref sig .tc := ⟨.hbm, 58, rfl⟩
abbrev main_call2_v3 : Ref sig .tc := ⟨.hbm, 59, rfl⟩
abbrev main_call2_v4 : Ref sig .tc := ⟨.hbm, 60, rfl⟩
abbrev main_call2_v5 : Ref sig .tc := ⟨.hbm, 61, rfl⟩
abbrev main_call2_cst_1 : Ref sig .tc := ⟨.hbm, 62, rfl⟩
abbrev main_call2_v6 : Ref sig .tc := ⟨.hbm, 63, rfl⟩
abbrev main_call2_v7 : Ref sig .tc := ⟨.hbm, 64, rfl⟩
abbrev main_call2_v8 : Ref sig .tc := ⟨.hbm, 65, rfl⟩
abbrev main_call2_v9 : Ref sig .tc := ⟨.hbm, 66, rfl⟩
abbrev main_call2_v10 : Ref sig .tc := ⟨.hbm, 67, rfl⟩
abbrev main_call2_v11 : Ref sig .tc := ⟨.hbm, 68, rfl⟩
abbrev main_call2_v12 : Ref sig .tc := ⟨.hbm, 69, rfl⟩
abbrev main_call2_v13 : Ref sig .tc := ⟨.hbm, 70, rfl⟩
abbrev main_call2_v14 : Ref sig .tc := ⟨.hbm, 71, rfl⟩
abbrev main_v22 : Ref sig .tc := ⟨.hbm, 72, rfl⟩
abbrev main_v23 : Ref sig .tc := ⟨.hbm, 73, rfl⟩
abbrev main_v24 : Ref sig .tc := ⟨.hbm, 74, rfl⟩
abbrev main_v25 : Ref sig .tc := ⟨.hbm, 75, rfl⟩
abbrev main_v26 : Ref sig .tc := ⟨.hbm, 76, rfl⟩
abbrev main_v27 : Ref sig .tc := ⟨.hbm, 77, rfl⟩
abbrev main_v28 : Ref sig .tc := ⟨.hbm, 78, rfl⟩
abbrev main_c_5 : Ref sig .tc := ⟨.hbm, 79, rfl⟩
abbrev main_v29 : Ref sig .tc := ⟨.hbm, 80, rfl⟩
abbrev main_v30 : Ref sig .tc := ⟨.hbm, 81, rfl⟩

abbrev nD : Nat := 1
abbrev τ : Topo := Topo.v7x

variable {F : FTy → Type} [FloatOps F]
-- ==== Proof.Arrays.lean ====
/-
  What the pipelined kernel leaves in its four output arrays, for any float values. The grid has 32 points; point `t`
  reads rows `2t` and `2t + 1` of the batch and writes those rows of every output, so each output array is, row pair
  by row pair, the body's function of the argument's row pair.
-/
module

public import proofs.«01_k».proof.Proof.Gen.KernelIdeal.Frame
public import Idealize.ShloMosaic.Lib.Pipeline.Value
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Arrays

open Cert.KernelIdeal Cert.KernelIdeal.Gen

variable {F : FTy → Type} [FloatOps F]

/-- Rows `2t` and `2t + 1` of the batch. -/
def pair (X : Vec F S64x4096x64 .f32) (t : Fin 32) : Vec F S2x4096x64 .f32 :=
  fun j => X (ix3 (n0 := 64) (n1 := 4096) (n2 := 64) ⟨2 * (t : Nat) + (j 0 : Nat), by
    have h : (j 0 : Nat) < 2 := (j 0).isLt
    have := t.isLt
    omega⟩ (j 1) (j 2))

/-- The array that holds, for every row pair of the batch, the function `f` of that row pair. -/
def tile {n : Nat} {α : Type} (f : Vec F S2x4096x64 .f32 → (⟨3, ![2, n, 64]⟩ : Shape).Idx → α)
    (X : Vec F S64x4096x64 .f32) : (⟨3, ![64, n, 64]⟩ : Shape).Idx → α :=
  fun i => f (pair X ⟨(i 0 : Nat) / 2, by
      have h : (i 0 : Nat) < 64 := (i 0).isLt
      omega⟩)
    (ix3 (n0 := 2) (n1 := n) (n2 := 64) ⟨(i 0 : Nat) % 2, Nat.mod_lt _ (by decide)⟩ (i 1) (i 2))

/-- The box of a three-axis array that holds row pair `t` and all of the other two axes; `off` is where it starts. -/
structure IsPair (t : Nat) (off : Fin 3 → Nat) : Prop where
  /-- It starts at row `2t`, -/
  rows : off 0 = 2 * t
  /-- at the start of the second axis -/
  mid : off 1 = 0
  /-- and of the third. -/
  lane : off 2 = 0

/-- Index `j` of the box of pair `t` is index `(2t + j 0, j 1, j 2)` of the array. -/
theorem place {n t : Nat} {off : Fin 3 → Nat} (h : IsPair t off)
    (hb : ∀ a : Fin 3, off a + ![2, n, 64] a ≤ (⟨3, ![64, n, 64]⟩ : Shape).size a) (j : (⟨3, ![2, n, 64]⟩ : Shape).Idx)
    (ht : 2 * t + (j 0 : Nat) < 64) :
    (Rect.unit (s := ⟨3, ![64, n, 64]⟩) off ![2, n, 64] hb).idx j
      = ix3 (n0 := 64) (n1 := n) (n2 := 64) ⟨2 * t + (j 0 : Nat), ht⟩ (j 1) (j 2) := by
  funext a
  apply Fin.ext
  match a with
  | ⟨0, _⟩ =>
    show off 0 + 1 * (j 0 : Nat) = 2 * t + (j 0 : Nat)
    rw [h.rows]; omega
  | ⟨1, _⟩ =>
    show off 1 + 1 * (j 1 : Nat) = (j 1 : Nat)
    rw [h.mid]; omega
  | ⟨2, _⟩ =>
    show off 2 + 1 * (j 2 : Nat) = (j 2 : Nat)
    rw [h.lane]; omega

/-- An index lies in the box of its row's pair. -/
theorem inside {n : Nat} {off : Fin 3 → Nat} (i : (⟨3, ![64, n, 64]⟩ : Shape).Idx) (h : IsPair ((i 0 : Nat) / 2) off)
    (hb : ∀ a : Fin 3, off a + ![2, n, 64] a ≤ (⟨3, ![64, n, 64]⟩ : Shape).size a) :
    i ∈ (Rect.unit (s := ⟨3, ![64, n, 64]⟩) off ![2, n, 64] hb).set := by
  have h1 : (i 1 : Nat) < n := (i 1).isLt
  have h2 : (i 2 : Nat) < 64 := (i 2).isLt
  rw [Rect.mem_set_unit]
  intro a
  match a with
  | ⟨0, _⟩ =>
    show off 0 ≤ (i 0 : Nat) ∧ (i 0 : Nat) < off 0 + 2
    rw [h.rows]; omega
  | ⟨1, _⟩ =>
    show off 1 ≤ (i 1 : Nat) ∧ (i 1 : Nat) < off 1 + n
    rw [h.mid]; omega
  | ⟨2, _⟩ =>
    show off 2 ≤ (i 2 : Nat) ∧ (i 2 : Nat) < off 2 + 64
    rw [h.lane]; omega

/-- The tiled array, read through the box of pair `t`, is the function of pair `t`. -/
theorem tile_box {n : Nat} {α : Type} (f : Vec F S2x4096x64 .f32 → (⟨3, ![2, n, 64]⟩ : Shape).Idx → α)
    (X : Vec F S64x4096x64 .f32) (t : Fin 32) {off : Fin 3 → Nat} (h : IsPair t off)
    (hb : ∀ a : Fin 3, off a + ![2, n, 64] a ≤ (⟨3, ![64, n, 64]⟩ : Shape).size a) (j : (⟨3, ![2, n, 64]⟩ : Shape).Idx) :
    tile f X ((Rect.unit (s := ⟨3, ![64, n, 64]⟩) off ![2, n, 64] hb).idx j) = f (pair X t) j := by
  have hj : (j 0 : Nat) < 2 := (j 0).isLt
  have ht := t.isLt
  rw [place h hb j (by omega)]
  refine congrArg₂ (fun p q => f (pair X p) q) (Fin.ext ?_) (((ix3_inj ..).2 ⟨Fin.ext ?_, rfl, rfl⟩).trans (ix3_eta j))
  · show (2 * (t : Nat) + (j 0 : Nat)) / 2 = t
    omega
  · show (2 * (t : Nat) + (j 0 : Nat)) % 2 = j 0
    omega

/-- The origin, axis by axis. -/
theorem zeros : (![0, 0, 0] : Fin 3 → Nat) = fun _ => 0 := funext fun a => by fin_cases a <;> rfl

variable (m : (ℓ : Loc nD τ sig) → Buf (Elt F) ℓ)

/-- Device `c`'s argument array. -/
abbrev arg (c : Dev nD) : Vec F S64x4096x64 .f32 := m ((c : Thread nD τ).loc main_arg0)

/-- A grid point as a number below 32. -/
def point (t : Fin cfg0.N) : Fin 32 := ⟨t.val, by have := t.isLt; have h : cfg0.N = 32 := N_0; omega⟩

/-- Every window's block index at point `t` is `(t, 0, 0)`. -/
theorem index_at : ∀ t : Fin grid0.N,
    (win0_0.index t 0 = t.val ∧ win0_0.index t 1 = 0 ∧ win0_0.index t 2 = 0)
    ∧ (win0_1.index t 0 = t.val ∧ win0_1.index t 1 = 0 ∧ win0_1.index t 2 = 0)
    ∧ (win0_2.index t 0 = t.val ∧ win0_2.index t 1 = 0 ∧ win0_2.index t 2 = 0)
    ∧ (win0_3.index t 0 = t.val ∧ win0_3.index t 1 = 0 ∧ win0_3.index t 2 = 0)
    ∧ (win0_4.index t 0 = t.val ∧ win0_4.index t 1 = 0 ∧ win0_4.index t 2 = 0) := by
  decide +kernel

/-- A block of two rows whose block index is `(t, 0, 0)` is the box of pair `t`. -/
theorem isPair {t n : Nat} {ix : Fin 3 → Nat} (h : ix 0 = t ∧ ix 1 = 0 ∧ ix 2 = 0) :
    IsPair t fun a => ix a * ![2, n, 64] a :=
  ⟨by show ix 0 * 2 = 2 * t; rw [h.1]; omega, by show ix 1 * n = 0; rw [h.2.1]; omega,
    by show ix 2 * 64 = 0; rw [h.2.2]⟩

/-- The block of the argument that point `t` reads is row pair `t`. -/
theorem block_in (c : Dev nD) (t : Fin cfg0.N) : iblk m c 0 t = pair (arg m c) (point t) :=
  funext fun j => congrArg (arg m c) (place (n := 4096) (isPair (index_at t).1) _ j _)

/-- Every index belongs to some point's row pair. -/
theorem pair_point {n : Nat} (i : (⟨3, ![64, n, 64]⟩ : Shape).Idx) : ∃ t : Fin cfg0.N, t.val = (i 0 : Nat) / 2 := by
  have h : (i 0 : Nat) < 64 := (i 0).isLt
  have hN : cfg0.N = 32 := N_0
  exact ⟨⟨(i 0 : Nat) / 2, by omega⟩, rfl⟩

/-- The bins after the run. -/
theorem final1 (c : Dev nD) :
    (dats m 0 c).arrAt 1 cfg0.N = tile (n := 4096) (fun x => k0_pay1 (k0_pay8 x)) (arg m c) := by
  refine (dats m 0 c).arrAt_eq_of_cover 1 _ (fun t _ => ?_) fun i => ?_
  · show (cfg0.win 1).cut (grid0.coords t) ((dats m 0 c).after 1 t) = _
    rw [after0_1]
    unfold out0_1
    rw [View.canon_unit_zero zeros, View.ld_unit_zero zeros, block_in]
    exact funext fun j => (tile_box (n := 4096) (fun x => k0_pay1 (k0_pay8 x)) (arg m c) (point t)
      (isPair (index_at t).2.1) _ j).symm
  · obtain ⟨t, ht⟩ := pair_point (n := 4096) i
    refine ⟨t, flush0_1 t, ?_⟩
    show i ∈ ((View.whole main_v0_0).slice (win0_1.rect t)).set
    rw [View.set_slice_whole]
    exact inside (n := 4096) i (ht ▸ isPair (index_at t).2.1) _

/-- The last values after the run. -/
theorem final2 (c : Dev nD) : (dats m 0 c).arrAt 2 cfg0.N = tile (n := 256) k0_pay4 (arg m c) := by
  refine (dats m 0 c).arrAt_eq_of_cover 2 _ (fun t _ => ?_) fun i => ?_
  · show (cfg0.win 2).cut (grid0.coords t) ((dats m 0 c).after 2 t) = _
    rw [after0_2]
    unfold out0_2
    rw [View.canon_unit_zero zeros, View.ld_unit_zero zeros, block_in]
    exact funext fun j => (tile_box (n := 256) k0_pay4 (arg m c) (point t) (isPair (index_at t).2.2.1) _ j).symm
  · obtain ⟨t, ht⟩ := pair_point (n := 256) i
    refine ⟨t, flush0_2 t, ?_⟩
    show i ∈ ((View.whole main_v0_1).slice (win0_2.rect t)).set
    rw [View.set_slice_whole]
    exact inside (n := 256) i (ht ▸ isPair (index_at t).2.2.1) _

/-- The means after the run. -/
theorem final3 (c : Dev nD) : (dats m 0 c).arrAt 3 cfg0.N = tile (n := 256) k0_pay6 (arg m c) := by
  refine (dats m 0 c).arrAt_eq_of_cover 3 _ (fun t _ => ?_) fun i => ?_
  · show (cfg0.win 3).cut (grid0.coords t) ((dats m 0 c).after 3 t) = _
    rw [after0_3]
    unfold out0_3
    rw [View.canon_unit_zero zeros, View.ld_unit_zero zeros, block_in]
    exact funext fun j => (tile_box (n := 256) k0_pay6 (arg m c) (point t) (isPair (index_at t).2.2.2.1) _ j).symm
  · obtain ⟨t, ht⟩ := pair_point (n := 256) i
    refine ⟨t, flush0_3 t, ?_⟩
    show i ∈ ((View.whole main_v0_2).slice (win0_3.rect t)).set
    rw [View.set_slice_whole]
    exact inside (n := 256) i (ht ▸ isPair (index_at t).2.2.2.1) _

/-- The spreads after the run. -/
theorem final4 (c : Dev nD) : (dats m 0 c).arrAt 4 cfg0.N = tile (n := 256) k0_pay7 (arg m c) := by
  refine (dats m 0 c).arrAt_eq_of_cover 4 _ (fun t _ => ?_) fun i => ?_
  · show (cfg0.win 4).cut (grid0.coords t) ((dats m 0 c).after 4 t) = _
    rw [after0_4]
    unfold out0_4
    rw [View.canon_unit_zero zeros, View.ld_unit_zero zeros, block_in]
    exact funext fun j => (tile_box (n := 256) k0_pay7 (arg m c) (point t) (isPair (index_at t).2.2.2.2) _ j).symm
  · obtain ⟨t, ht⟩ := pair_point (n := 256) i
    refine ⟨t, flush0_4 t, ?_⟩
    show i ∈ ((View.whole main_v0_3).slice (win0_4.rect t)).set
    rw [View.set_slice_whole]
    exact inside (n := 256) i (ht ▸ isPair (index_at t).2.2.2.2) _

end Cert.KernelIdeal.Arrays

end
-- ==== Proof.KernelRun.lean ====
/-
  The kernel program's run, for any float values: the host lines after the pipeline stack the last values, means and
  spreads into the features, and cut, turn and widen the bins.
-/
module

public import proofs.«01_k».proof.Proof.Arrays
public import Idealize.ShloMosaic.Lib.StableHlo.Run

@[expose] public section

set_option maxRecDepth 16384

noncomputable section

open Idealize.ShloMosaic Idealize.ShloMosaic.TcCoe Idealize.ShloMosaic.StableHlo Idealize.SL.Sem

namespace Cert.KernelIdeal.Arrays

open Cert.KernelIdeal Cert.KernelIdeal.Gen

variable {F : FTy → Type} [FloatOps F]

/-- The bins as the host returns them: the first fifteen rows of each window, axes turned, widened to 32 bits. -/
def binsOf (B : IVec S64x4096x64 8) : IVec S64x256x64x15 32 :=
  extsi 32
    (transpose S64x256x64x15 [0, 1, 3, 2]
      (extractStridedSlice S64x256x15x64 ![0, 0, 0, 0] (shapeCast S64x256x16x64 B shapeCasts_S64x4096x64_S64x256x16x64)
        slices_S64x256x16x64_S64x256x15x64_0_0_0_0)
      transposes_S64x256x15x64_S64x256x64x15_0_1_3_2) natLt_8_32

/-- The features as the host returns them: three arrays side by side. -/
def featuresOf (L M D : FVec F S64x256x64 .f32) : FVec F S64x256x64x3 .f32 :=
  concatenate S64x256x64x3 3
    [⟨S64x256x64x1, broadcastInDim S64x256x64x1 ![0, 1, 2] bcast_S64x256x64_S64x256x64x1_0_1_2 L⟩,
     ⟨S64x256x64x1, broadcastInDim S64x256x64x1 ![0, 1, 2] bcast_S64x256x64_S64x256x64x1_0_1_2 M⟩,
     ⟨S64x256x64x1, broadcastInDim S64x256x64x1 ![0, 1, 2] bcast_S64x256x64_S64x256x64x1_0_1_2 D⟩]
    concatenates_S64x256x64x1_S64x256x64x1_S64x256x64x1_S64x256x64x3_d3

/-- The kernel's bins as a function of its argument. -/
def bins (X : Vec F S64x4096x64 .f32) : IVec S64x256x64x15 32 :=
  binsOf (tile (n := 4096) (fun x => k0_pay1 (k0_pay8 x)) X)

/-- The kernel's features as a function of its argument. -/
def features (X : Vec F S64x4096x64 .f32) : FVec F S64x256x64x3 .f32 :=
  featuresOf (tile (n := 256) k0_pay4 X) (tile (n := 256) k0_pay6 X) (tile (n := 256) k0_pay7 X)

variable (m : (ℓ : Loc nD τ sig) → Buf (Elt F) ℓ) (ρ : Dev nD → PrngReg)

/-- The buffers as the pipeline leaves them, before the host lines. -/
abbrev left (c : Dev nD) : Valuation τ sig (Elt F) :=
  Pipeline.withArrays (cfgs 0).spec c (V0 m c) fun w => (dats m 0 c).arrAt w (cfgs 0).N

/-- No two windows share an array. -/
theorem arrays_distinct : Function.Injective (Pipeline.arrRef (cfgs 0).spec) := by
  intro a b; revert a b; decide

theorem left1 (c : Dev nD) : left m c (Proc.devRef .tc main_v0_0) = tile (n := 4096) (fun x => k0_pay1 (k0_pay8 x)) (arg m c) :=
  (Pipeline.withArrays_arr (cfgs 0).spec arrays_distinct c _ _ 1).trans (final1 m c)
theorem left2 (c : Dev nD) : left m c (Proc.devRef .tc main_v0_1) = tile (n := 256) k0_pay4 (arg m c) :=
  (Pipeline.withArrays_arr (cfgs 0).spec arrays_distinct c _ _ 2).trans (final2 m c)
theorem left3 (c : Dev nD) : left m c (Proc.devRef .tc main_v0_2) = tile (n := 256) k0_pay6 (arg m c) :=
  (Pipeline.withArrays_arr (cfgs 0).spec arrays_distinct c _ _ 3).trans (final3 m c)
theorem left4 (c : Dev nD) : left m c (Proc.devRef .tc main_v0_3) = tile (n := 256) k0_pay7 (arg m c) :=
  (Pipeline.withArrays_arr (cfgs 0).spec arrays_distinct c _ _ 4).trans (final4 m c)

/-- What the host lines leave in the bins' buffer. -/
theorem tail_bins (c : Dev nD) :
    Pipeline.afterTail₀ cfgs (dats m) 0 (V0 m) [hostOps1] c main_v8 = bins (arg m c) := by
  show StableHlo.after (List.flatten [hostOps1]) (left m c) (Proc.devRef .tc main_v8) = _
  rw [bins, ← left1 m c]
  generalize left m c = V
  simp only [List.flatten_cons, List.flatten_nil, List.append_nil, hostOps1]
  after_results_simp
  rfl

/-- What the host lines leave in the features' buffer. -/
theorem tail_features (c : Dev nD) :
    Pipeline.afterTail₀ cfgs (dats m) 0 (V0 m) [hostOps1] c main_v4 = features (arg m c) := by
  show StableHlo.after (List.flatten [hostOps1]) (left m c) (Proc.devRef .tc main_v4) = _
  rw [features, ← left2 m c, ← left3 m c, ← left4 m c]
  generalize left m c = V
  simp only [List.flatten_cons, List.flatten_nil, List.append_nil, hostOps1]
  after_results_simp
  dsimp only [Matrix.cons_val]
  rfl

/-- THE RUN: every fair execution terminates with the bins and the features at their functions of the argument, and the
    argument unchanged. -/
theorem run : θ_run defs (onTc (τ := τ) (main (F := F))) ⟨m, fun _ => 0, ρ⟩ fun r => ∀ c : Dev nD,
      r.2.mem ((c : Thread nD τ).loc main_v8) = bins (arg m c)
      ∧ r.2.mem ((c : Thread nD τ).loc main_v4) = features (arg m c)
      ∧ r.2.mem ((c : Thread nD τ).loc main_arg0) = m ((c : Thread nD τ).loc main_arg0) :=
  (θ_run defs _ _).mono (fun _ h c => ⟨((h c).2 main_v8 (by decide)).trans (tail_bins m c),
      ((h c).2 main_v4 (by decide)).trans (tail_features m c), ((h c).1 0).trans ((dats m 0 c).arrAt_in 0 rfl _)⟩)
    (run_main m ρ)

end Cert.KernelIdeal.Arrays

end
-- ==== Proof.Bins.lean ====
/-
  The arithmetic of the bin numbers over the extended reals. The reference counts how many of 99 evenly spaced
  thresholds lie below a step; the kernel scales and shifts the step, rounds it up and clamps it to 0…99. The two agree
  at every extended real, the two infinities included.
-/
module

public import Idealize.ShloMosaic.PureOps.Ideal
public import Idealize.ShloMosaic.PureOps.Ideal.Laws
public import Mathlib.Tactic.Linarith
public import Mathlib.Tactic.FieldSimp
public import Mathlib.Tactic.NormNum
public import Mathlib.Order.Interval.Finset.Nat

@[expose] public section

noncomputable section

open Idealize.ShloMosaic

namespace Cert.Bins

/-- The pattern of 490 denotes 490. -/
theorem c490 : Ideal.ofBits .f32 0x43F50000#32 = ((490 : ℝ) : EReal) := by
  simp [Ideal.ofBits, Ideal.ieee, -EReal.coe_mul]; norm_num

/-- The pattern of 49 denotes 49. -/
theorem c49 : Ideal.ofBits .f32 0x42440000#32 = ((49 : ℝ) : EReal) := by
  simp [Ideal.ofBits, Ideal.ieee, -EReal.coe_mul]; norm_num

/-- The pattern of 99 denotes 99. -/
theorem c99 : Ideal.ofBits .f32 0x42C60000#32 = ((99 : ℝ) : EReal) := by
  simp [Ideal.ofBits, Ideal.ieee, -EReal.coe_mul]; norm_num

/-- The pattern of 98 denotes 98. -/
theorem c98 : Ideal.ofBits .f32 0x42C40000#32 = ((98 : ℝ) : EReal) := by
  simp [Ideal.ofBits, Ideal.ieee, -EReal.coe_mul]; norm_num

/-- The pattern of 10 denotes 10. -/
theorem c10 : Ideal.ofBits .f32 0x41200000#32 = ((10 : ℝ) : EReal) := by
  simp [Ideal.ofBits, Ideal.ieee, -EReal.coe_mul]; norm_num

/-- The pattern of 16 denotes 16. -/
theorem c16 : Ideal.ofBits .f32 0x41800000#32 = ((16 : ℝ) : EReal) := by
  simp [Ideal.ofBits, Ideal.ieee, -EReal.coe_mul]; norm_num

/-- Division of two reals, the divisor nonzero, is the real quotient. -/
theorem div_real (a b : ℝ) (hb : b ≠ 0) : Ideal.div (a : EReal) (b : EReal) = ((a / b : ℝ) : EReal) := by
  have h : ((b : ℝ) : EReal) ≠ 0 := by exact_mod_cast hb
  rw [Ideal.div, if_neg h, ← EReal.coe_inv, ← EReal.coe_mul, div_eq_mul_inv]

/-- Threshold number `k`: `(k - 49) / 490`, which runs from minus one tenth to one tenth. -/
def threshold (k : Nat) : EReal := ((((k : ℝ) - 49) / 490 : ℝ) : EReal)

/-- A threshold before the last, as the blend of the two ends at position `k / 98`. -/
theorem blend (k : Nat) :
    -Ideal.div 1 ((10 : ℝ) : EReal) * (1 - Ideal.div (((k : ℤ) : ℝ) : EReal) ((98 : ℝ) : EReal))
      + Ideal.div 1 ((10 : ℝ) : EReal) * Ideal.div (((k : ℤ) : ℝ) : EReal) ((98 : ℝ) : EReal) = threshold k := by
  have h1 : (1 : EReal) = ((1 : ℝ) : EReal) := rfl
  rw [h1, div_real _ _ (by norm_num), div_real _ _ (by norm_num), ← EReal.coe_neg, ← EReal.coe_sub, ← EReal.coe_mul,
    ← EReal.coe_mul, ← EReal.coe_add, threshold]
  congr 1
  push_cast
  ring

/-- The last threshold is one tenth. -/
theorem tip : Ideal.div 1 ((10 : ℝ) : EReal) = threshold 98 := by
  have h1 : (1 : EReal) = ((1 : ℝ) : EReal) := rfl
  rw [h1, div_real _ _ (by norm_num), threshold]
  congr 1
  norm_num

/-- The kernel's bin byte of a step: scaled by 490, shifted by 49, rounded up, clamped to 0…99, as an 8-bit integer. -/
def byte (d : EReal) : BitVec 8 :=
  Ideal.fptosi 8 (min (Ideal.ofBits .f32 0x42C60000#32) (max 0
    (Ideal.liftRound Int.ceil (d * Ideal.ofBits .f32 0x43F50000#32 + Ideal.ofBits .f32 0x42440000#32))))

/-- How many of the 99 thresholds lie below a step. -/
def tally (d : EReal) : Nat := (Finset.univ.filter fun k : Fin 99 => threshold k < d).card

/-- The numbers below 99 that lie below an integer `n` are `min 99 n` many, or none when `n` is negative. -/
theorem card_below (n : ℤ) : (Finset.univ.filter fun k : Fin 99 => ((k : Nat) : ℤ) < n).card
    = (min 99 (max 0 n)).toNat := by
  have h : (Finset.univ.filter fun k : Fin 99 => ((k : Nat) : ℤ) < n)
      = Finset.univ.filter fun k : Fin 99 => (k : Nat) < n.toNat := by
    ext k; simp only [Finset.mem_filter, Finset.mem_univ, true_and]; omega
  rw [h, Fin.card_filter_val_lt]
  omega

/-- A threshold lies below a real step exactly when its number lies below the scaled, shifted, rounded-up step. -/
theorem threshold_lt (r : ℝ) (k : Nat) : threshold k < (r : EReal) ↔ (k : ℤ) < ⌈r * 490 + 49⌉ := by
  rw [threshold, EReal.coe_lt_coe_iff, Int.lt_ceil, div_lt_iff₀ (by norm_num)]
  push_cast
  constructor <;> intro h <;> linarith

/-- An integer from 0 to 99 survives the conversion to eight bits and the sign extension to thirty-two. -/
theorem widen (z : ℤ) (h0 : 0 ≤ z) (h1 : z ≤ 99) :
    (BitVec.ofInt 8 z).signExtend 32 = BitVec.ofNat 32 z.toNat := by
  obtain ⟨n, rfl⟩ := Int.eq_ofNat_of_zero_le h0
  have hn : n < 100 := by omega
  have key : ∀ k : Fin 100, (BitVec.ofInt 8 ((k : Nat) : ℤ)).signExtend 32 = BitVec.ofNat 32 (k : Nat) := by
    decide +kernel
  exact key ⟨n, hn⟩

/-- Clamping a real integer to 0…99 and converting it to eight bits gives the clamped integer's byte. -/
theorem byte_int (n : ℤ) : Ideal.fptosi 8 (min ((99 : ℝ) : EReal) (max 0 (((n : ℤ) : ℝ) : EReal)))
    = BitVec.ofInt 8 (min 99 (max 0 n)) := by
  have e : min ((99 : ℝ) : EReal) (max 0 (((n : ℤ) : ℝ) : EReal)) = (((min 99 (max 0 n) : ℤ) : ℝ) : EReal) := by
    push_cast
    rw [EReal.coe_strictMono.monotone.map_min, EReal.coe_strictMono.monotone.map_max]
    rfl
  rw [e]
  have h0 : (0 : ℤ) ≤ min 99 (max 0 n) := by omega
  have h1 : min 99 (max 0 n) ≤ (99 : ℤ) := by omega
  generalize min 99 (max 0 n) = z at h0 h1
  have hz : (0 : ℝ) ≤ (z : ℝ) := by exact_mod_cast h0
  show BitVec.ofInt 8 (max _ (min _ (if 0 ≤ ((z : ℤ) : ℝ) then ⌊((z : ℤ) : ℝ)⌋ else ⌈((z : ℤ) : ℝ)⌉))) = _
  rw [if_pos hz, Int.floor_intCast]
  congr 1
  norm_num
  omega

/-- THE BIN EQUATION: at every extended real step the kernel's byte, widened to thirty-two bits, is the number of
    thresholds below the step. -/
theorem byte_eq_tally (d : EReal) : (byte d).signExtend 32 = BitVec.ofNat 32 (tally d) := by
  rw [byte, tally, c99, c490, c49]
  induction d with
  | bot =>
    rw [EReal.bot_mul_coe_of_pos (by norm_num), EReal.bot_add]
    have e : (Finset.univ.filter fun k : Fin 99 => threshold k < ⊥) = ∅ := by simp
    rw [e, Finset.card_empty]
    have h := byte_int 0
    rw [show (((0 : ℤ) : ℝ) : EReal) = 0 by simp, max_self] at h
    rw [show Ideal.liftRound Int.ceil ⊥ = ⊥ from rfl, max_eq_left bot_le, h]
    decide
  | top =>
    rw [EReal.top_mul_coe_of_pos (by norm_num), EReal.top_add_coe]
    have e : (Finset.univ.filter fun k : Fin 99 => threshold k < ⊤) = Finset.univ :=
      Finset.filter_true_of_mem fun k _ => EReal.coe_lt_top _
    rw [e, Finset.card_univ, Fintype.card_fin]
    have h := byte_int 99
    rw [show (((99 : ℤ) : ℝ) : EReal) = ((99 : ℝ) : EReal) by norm_num,
      max_eq_right (by exact_mod_cast (by norm_num : (0 : ℝ) ≤ 99)), min_self] at h
    rw [show Ideal.liftRound Int.ceil ⊤ = ⊤ from rfl, max_eq_right le_top, min_eq_left le_top, h]
    decide
  | coe r =>
    rw [← EReal.coe_mul, ← EReal.coe_add,
      show Ideal.liftRound Int.ceil ((r * 490 + 49 : ℝ) : EReal) = ((⌈r * 490 + 49⌉ : ℝ) : EReal) from rfl,
      byte_int, widen _ (by omega) (by omega), ← card_below]
    congr 2
    exact Finset.filter_congr fun k _ => (threshold_lt r k).symm

end Cert.Bins

end
-- ==== Proof.Spec.lean ====
/-
  The plain mathematics both programs are read to, over the extended reals: the relative step between two neighbouring
  values, and the mean and the spread of a window of sixteen values.
-/
module

public import proofs.«01_k».proof.Proof.Bins
public import Idealize.ShloMosaic.Lib.Pointwise

@[expose] public section

noncomputable section

open Idealize.ShloMosaic

namespace Cert.Spec

/-- The small constant that keeps the divisor off zero and is added to every spread. -/
def eps : EReal := Ideal.ofBits .f32 0x322BCC77#32

/-- The relative step from `p` to `q`: their difference over the larger of `|p|` and the small constant. -/
def step (p q : EReal) : EReal := Ideal.div (q - p) (max (max p (-p)) eps)

/-- The mean of sixteen values. -/
def mean (v : Fin 16 → EReal) : EReal := Ideal.div (∑ k, v k) (Ideal.ofBits .f32 0x41800000#32)

/-- The population standard deviation of sixteen values, with the small constant added. -/
def spread (v : Fin 16 → EReal) : EReal :=
  Ideal.sqrt (Ideal.div (∑ k, (v k - mean v) * (v k - mean v)) (Ideal.ofBits .f32 0x41800000#32)) + eps

/-- The row of the time axis at place `k` of window `w`. -/
def row (w : Fin 256) (k : Fin 16) : Fin 4096 := ⟨(w : Nat) * 16 + (k : Nat), by omega⟩

/-- The sixteen values of window `w` of batch entry `b` and stream `s`. -/
def window (X : FVec Ideal ⟨3, ![64, 4096, 64]⟩ .f32) (b : Fin 64) (w : Fin 256) (s : Fin 64) : Fin 16 → EReal :=
  fun k => X (ix3 b (row w k) s)

/-- The relative step number `k` inside a window of sixteen values: from place `k` to place `k + 1`. -/
def stepAt (v : Fin 16 → EReal) (k : Fin 15) : EReal := step (v ⟨(k : Nat), by omega⟩) (v ⟨(k : Nat) + 1, by omega⟩)

end Cert.Spec

end
-- ==== Proof.Block.lean ====
/-
  What the kernel's body computes from one row pair, over the extended reals, entry by entry.
-/
module

public import proofs.«01_k».proof.Proof.Gen.KernelIdeal.Skeleton
public import proofs.«01_k».proof.Proof.Spec

@[expose] public section

set_option maxRecDepth 16384

noncomputable section

open Idealize.ShloMosaic

namespace Cert.KernelIdeal.Block

open Cert.KernelIdeal Cert.KernelIdeal.Gen

variable (x : Vec Ideal S2x4096x64 .f32)

/-- The sixteen values of window `w` in row `a` of the pair, at stream `s`. -/
def window (a : Fin 2) (w : Fin 256) (s : Fin 64) : Fin 16 → EReal := fun k => x (ix3 a (Spec.row w k) s)

/-- The block's flattened window number gives back the window of its row. -/
theorem place (a : Fin 2) (w : Fin 256) (k : Nat) (h : ((a : Nat) * 256 + w) % 256 * 16 + k < 4096) (hk : k < 16) :
    (⟨((a : Nat) * 256 + w) % 256 * 16 + k, h⟩ : Fin 4096) = Spec.row w ⟨k, hk⟩ := by
  apply Fin.ext
  show ((a : Nat) * 256 + w) % 256 * 16 + k = (w : Nat) * 16 + k
  omega

/-- The stored last value is the window's sixteenth. -/
theorem last_at (a : Fin 2) (w : Fin 256) (s : Fin 64) : k0_pay4 x (ix3 a w s) = window x a w s 15 := by
  pointwise [k0_pay4, k0_pay3, k0_pay2]
  rw [place a w 15 _ (by decide)]
  rfl

/-- The stored mean is the window's mean. -/
theorem mean_at (a : Fin 2) (w : Fin 256) (s : Fin 64) : k0_pay6 x (ix3 a w s) = Spec.mean (window x a w s) := by
  pointwise [k0_pay6, k0_pay5, k0_pay3, k0_pay2]
  simp only [place _ _ _ _ (Fin.isLt _)]
  rfl

/-- The stored spread is the window's spread. -/
theorem spread_at (a : Fin 2) (w : Fin 256) (s : Fin 64) : k0_pay7 x (ix3 a w s) = Spec.spread (window x a w s) := by
  pointwise [k0_pay7, k0_pay5, k0_pay3, k0_pay2]
  simp only [place _ _ _ _ (Fin.isLt _)]
  rfl

/-- The stored byte at a place of a window other than the last is the bin byte of the step from that place to the
    next. -/
theorem bin_at (a : Fin 2) (w : Fin 256) (s : Fin 64) (k : Fin 15) :
    k0_pay1 (k0_pay8 x) (ix3 a (Spec.row w ⟨(k : Nat), by omega⟩) s) = Bins.byte (Spec.stepAt (window x a w s) k) := by
  generalize hr : Spec.row w ⟨(k : Nat), by omega⟩ = r
  have hv : (r : Nat) = (w : Nat) * 16 + k := by rw [← hr]; rfl
  pointwise [k0_pay1, k0_pay8, k0_pay3, k0_pay2]
  have hlt : (a : Nat) * 4096 + r < 8191 := by omega
  rw [dif_pos hlt]
  have e0 : (1 + ((a : Nat) * 4096 + r)) / 4096 = a := by omega
  have e1 : (1 + ((a : Nat) * 4096 + r)) % 4096 = (w : Nat) * 16 + (k + 1) := by omega
  have e : ∀ h0 h1, (ix3 (n0 := 2) (n1 := 4096) (n2 := 64) ⟨(1 + ((a : Nat) * 4096 + r)) / 4096, h0⟩
      ⟨(1 + ((a : Nat) * 4096 + r)) % 4096, h1⟩ s) = ix3 a (Spec.row w ⟨(k : Nat) + 1, by omega⟩) s := fun _ _ =>
    (ix3_inj ..).2 ⟨Fin.ext e0, Fin.ext e1, rfl⟩
  rw [e, ← hr]
  rfl

end Cert.KernelIdeal.Block

end
-- ==== Proof.Reference.lean ====
/-
  What the reference computes, over the extended reals: its two results as functions of the argument, read entry by entry.
-/
module

public import proofs.«01_k».proof.Proof.Gen.ReferenceIdeal
public import proofs.«01_k».proof.Proof.Spec
public import Idealize.ShloMosaic.Lib.IndicatorCount

@[expose] public section

set_option maxRecDepth 16384

noncomputable section

open Idealize.ShloMosaic

namespace Cert.ReferenceIdeal.Read

open Cert.ReferenceIdeal Cert.ReferenceIdeal.Gen

/-- One tenth, as the reference divides it out. -/
def tenth : FVec Ideal S_ .f32 := Host.divf (constant S_ .f32 0x3F800000#32) (constant S_ .f32 0x41200000#32)

/-- The position of each of the first 98 thresholds between the two ends: `k / 98`. -/
def position : FVec Ideal S98 .f32 :=
  Host.divf (sitofp .f32 (iotaInDim S98 32 0)) (broadcastInDim S98 ![] bcast_S_S98 (constant S_ .f32 0x42C40000#32))

/-- The 99 evenly spaced thresholds from minus one tenth to one tenth, as the reference builds them. -/
def thresholds : FVec Ideal S99 .f32 :=
  concatenate S99 0 [⟨S98, addf
      (mulf (broadcastInDim S98 ![0] bcast_S1_S98_0 (shapeCast _ (Host.negf tenth) shapeCasts_S_S1))
        (subf (broadcastInDim S98 ![] bcast_S_S98 (constant S_ .f32 0x3F800000#32)) position))
      (mulf (broadcastInDim S98 ![0] bcast_S1_S98_0 (shapeCast _ tenth shapeCasts_S_S1)) position)⟩,
    ⟨S1, broadcastInDim S1 ![] bcast_S_S1 tenth⟩] concatenates_S98_S1_S99_d0

/-- The argument cut into windows of sixteen consecutive rows. -/
def windows (X : FVec Ideal S64x4096x64 .f32) : FVec Ideal S64x256x16x64 .f32 :=
  shapeCast _ X shapeCasts_S64x4096x64_S64x256x16x64

/-- The first fifteen rows of each window: the value before each step. -/
def before (X : FVec Ideal S64x4096x64 .f32) : FVec Ideal S64x256x15x64 .f32 :=
  extractStridedSlice S64x256x15x64 ![0, 0, 0, 0] (windows X) slices_S64x256x16x64_S64x256x15x64_0_0_0_0

/-- The relative steps inside each window. -/
def deltas (X : FVec Ideal S64x4096x64 .f32) : FVec Ideal S64x256x15x64 .f32 :=
  Host.divf
    (subf (extractStridedSlice S64x256x15x64 ![0, 0, 1, 0] (windows X) slices_S64x256x16x64_S64x256x15x64_0_0_1_0)
      (before X))
    (maximumf (broadcastInDim S64x256x15x64 ![] bcast_S_S64x256x15x64 (id (constant S_ .f32 0x322BCC77#32)))
      (Host.absf (before X)))

/-- The reference's first result: how many thresholds lie below each relative step. -/
def bins (X : FVec Ideal S64x4096x64 .f32) : IVec S64x256x64x15 32 :=
  transpose S64x256x64x15 [0, 1, 3, 2]
    (Host.reduce IntOp.addi
      (extui 32
        (cmpf .olt
          (broadcastInDim S64x256x15x64x99 ![0, 1, 2, 3, 4] bcast_S1x1x1x1x99_S64x256x15x64x99_0_1_2_3_4
            (broadcastInDim S1x1x1x1x99 ![4] bcast_S99_S1x1x1x1x99_4 thresholds))
          (broadcastInDim S64x256x15x64x99 ![0, 1, 2, 3, 4] bcast_S64x256x15x64x1_S64x256x15x64x99_0_1_2_3_4
            (broadcastInDim S64x256x15x64x1 ![0, 1, 2, 3] bcast_S64x256x15x64_S64x256x15x64x1_0_1_2_3 (deltas X))))
        natLt_1_32)
      (constantI S_ 32 0#32) reducesTo_S64x256x15x64x99_S64x256x15x64_d4 h_S_)
    transposes_S64x256x15x64_S64x256x64x15_0_1_3_2

/-- The last row of each window. -/
def last (X : FVec Ideal S64x4096x64 .f32) : FVec Ideal S64x256x64 .f32 :=
  shapeCast _ (extractStridedSlice S64x256x1x64 ![0, 0, 15, 0] (windows X) slices_S64x256x16x64_S64x256x1x64_0_0_15_0)
    shapeCasts_S64x256x1x64_S64x256x64

/-- The sum of each window's rows. -/
def total (X : FVec Ideal S64x4096x64 .f32) : FVec Ideal S64x256x64 .f32 :=
  Host.reduceAdd (windows X) (constant S_ .f32 0x00000000#32) reducesTo_S64x256x16x64_S64x256x64_d2 h_S_

/-- The mean of each window. -/
def mean (X : FVec Ideal S64x4096x64 .f32) : FVec Ideal S64x256x64 .f32 :=
  Host.divf (total X) (broadcastInDim S64x256x64 ![] bcast_S_S64x256x64 (constant S_ .f32 0x41800000#32))

/-- Each row's distance from its window's mean. -/
def centered (X : FVec Ideal S64x4096x64 .f32) : FVec Ideal S64x256x16x64 .f32 :=
  subf (windows X)
    (broadcastInDim S64x256x16x64 ![0, 1, 2, 3] bcast_S64x256x1x64_S64x256x16x64_0_1_2_3
      (Host.divf (broadcastInDim S64x256x1x64 ![0, 1, 3] bcast_S64x256x64_S64x256x1x64_0_1_3 (total X))
        (broadcastInDim S64x256x1x64 ![] bcast_S_S64x256x1x64 (constant S_ .f32 0x41800000#32))))

/-- The number of rows the variance divides by: sixteen less zero. -/
def count : FVec Ideal S_ .f32 := subf (constant S_ .f32 0x41800000#32) (sitofp .f32 (constantI S_ 32 0#32))

/-- The standard deviation of each window, with the small constant added. -/
def spread (X : FVec Ideal S64x4096x64 .f32) : FVec Ideal S64x256x64 .f32 :=
  addf
    (Host.sqrt
      (select (broadcastInDim S64x256x64 ![] bcast_S_S64x256x64 (cmpf .ogt count (constant S_ .f32 0x00000000#32)))
        (Host.divf
          (Host.reduceAdd (mulf (centered X) (centered X)) (constant S_ .f32 0x00000000#32)
            reducesTo_S64x256x16x64_S64x256x64_d2 h_S_)
          (broadcastInDim S64x256x64 ![] bcast_S_S64x256x64 count))
        (broadcastInDim S64x256x64 ![] bcast_S_S64x256x64 (id (constant S_ .f32 0x7FC00000#32)))))
    (broadcastInDim S64x256x64 ![] bcast_S_S64x256x64 (constant S_ .f32 0x322BCC77#32))

/-- The reference's second result: last value, mean and spread of each window, side by side. -/
def features (X : FVec Ideal S64x4096x64 .f32) : FVec Ideal S64x256x64x3 .f32 :=
  concatenate S64x256x64x3 3
    [⟨S64x256x64x1, broadcastInDim S64x256x64x1 ![0, 1, 2] bcast_S64x256x64_S64x256x64x1_0_1_2 (last X)⟩,
     ⟨S64x256x64x1, broadcastInDim S64x256x64x1 ![0, 1, 2] bcast_S64x256x64_S64x256x64x1_0_1_2 (mean X)⟩,
     ⟨S64x256x64x1, broadcastInDim S64x256x64x1 ![0, 1, 2] bcast_S64x256x64_S64x256x64x1_0_1_2 (spread X)⟩]
    concatenates_S64x256x64x1_S64x256x64x1_S64x256x64x1_S64x256x64x3_d3

/-- Threshold number `k` is `(k - 49) / 490`. -/
theorem thresholds_at (k : Fin 99) : thresholds (ix1 k) = Bins.threshold k := by
  pointwise [thresholds, tenth, position]
  rw [Bins.c10, Bins.c98]
  split
  · have small : ∀ k : Fin 99, (BitVec.ofNat 32 (k : Nat)).toInt = ((k : Nat) : ℤ) := by decide +kernel
    have e := small k
    show -Ideal.div 1 ((10 : ℝ) : EReal) * (1 - Ideal.div (((BitVec.ofNat 32 (k : Nat)).toInt : ℝ) : EReal) _)
      + Ideal.div 1 ((10 : ℝ) : EReal) * Ideal.div (((BitVec.ofNat 32 (k : Nat)).toInt : ℝ) : EReal) _ = _
    rw [e]
    exact Bins.blend k
  · have e : (k : Nat) = 98 := by omega
    rw [e]
    exact Bins.tip

/-- The reference's relative step is the step inside the window. -/
theorem deltas_at (X : FVec Ideal S64x4096x64 .f32) (b : Fin 64) (w : Fin 256) (k : Fin 15) (s : Fin 64) :
    deltas X (ix4 b w k s) = Spec.stepAt (Spec.window X b w s) k := by
  pointwise [deltas, before, windows]
  rw [max_comm]
  have e : ∀ h, (⟨(w : Nat) * 16 + (1 + (k : Nat)), h⟩ : Fin 4096) = Spec.row w ⟨(k : Nat) + 1, by omega⟩ := fun _ =>
    Fin.ext (congrArg ((w : Nat) * 16 + ·) (Nat.add_comm 1 k))
  rw [e]
  rfl

/-- The reference's bin is the number of thresholds below the step. -/
theorem bins_at (X : FVec Ideal S64x4096x64 .f32) (b : Fin 64) (w : Fin 256) (s : Fin 64) (k : Fin 15) :
    bins X (ix4 b w s k) = BitVec.ofNat 32 (Bins.tally (Spec.stepAt (Spec.window X b w s) k)) := by
  pointwise [bins]
  refine (IndicatorCount.fold_addi_setWidth_eq_card
    (fun x : Fin 99 => BitVec.ofBool (decide (thresholds (ix1 x) < deltas X (ix4 b w k s)))) _).trans ?_
  unfold Bins.tally
  congr 2
  refine Finset.filter_congr fun x _ => ?_
  rw [thresholds_at, deltas_at]
  by_cases h : Bins.threshold x < Spec.stepAt (Spec.window X b w s) k <;> simp [h]

/-- The reference's last value is the window's sixteenth. -/
theorem last_at (X : FVec Ideal S64x4096x64 .f32) (b : Fin 64) (w : Fin 256) (s : Fin 64) :
    last X (ix3 b w s) = Spec.window X b w s 15 := by
  pointwise [last, windows]
  rfl

/-- The reference's mean is the window's mean. -/
theorem mean_at (X : FVec Ideal S64x4096x64 .f32) (b : Fin 64) (w : Fin 256) (s : Fin 64) :
    mean X (ix3 b w s) = Spec.mean (Spec.window X b w s) := by
  pointwise [mean, total, windows]
  rfl

/-- Sixteen less the integer zero is sixteen. -/
theorem sixteen : Ideal.ofBits .f32 0x41800000#32 - FloatOps.sitofp (F := Ideal) .f32 (0#32)
    = Ideal.ofBits .f32 0x41800000#32 := by
  show Ideal.ofBits .f32 0x41800000#32 - ((((0#32).toInt : ℤ) : ℝ) : EReal) = _
  simp

/-- The reference's spread is the window's spread: its divisor is positive, so the choice it makes is the quotient. -/
theorem spread_at (X : FVec Ideal S64x4096x64 .f32) (b : Fin 64) (w : Fin 256) (s : Fin 64) :
    spread X (ix3 b w s) = Spec.spread (Spec.window X b w s) := by
  pointwise [spread, centered, count, total, windows]
  rw [sixteen, if_pos]
  · rfl
  · rw [Bins.c16]
    exact_mod_cast (by norm_num : (0 : ℝ) < 16)

end Cert.ReferenceIdeal.Read

end
-- ==== Proof.Equation.lean ====
/-
  The equation: over the extended reals the kernel's two results are the reference's two results, whatever the argument.
-/
module

public import proofs.«01_k».proof.Proof.KernelRun
public import proofs.«01_k».proof.Proof.Block
public import proofs.«01_k».proof.Proof.Reference

@[expose] public section

set_option maxRecDepth 16384

noncomputable section

open Idealize.ShloMosaic

namespace Cert.Equation

open Cert.KernelIdeal Cert.KernelIdeal.Gen Cert.KernelIdeal.Arrays

variable (X : FVec Ideal S64x4096x64 .f32)

/-- A row of a pair, read at the batch entry it came from. -/
theorem pair_window (b : Fin 64) (h : (b : Nat) / 2 < 32) (h' : (b : Nat) % 2 < 2) (w : Fin 256) (s : Fin 64) :
    Block.window (pair (F := Ideal) X ⟨(b : Nat) / 2, h⟩) ⟨(b : Nat) % 2, h'⟩ w s = Spec.window X b w s := by
  funext k
  show X _ = X _
  congr 1
  refine (ix3_inj ..).2 ⟨Fin.ext ?_, rfl, rfl⟩
  show 2 * ((b : Nat) / 2) + (b : Nat) % 2 = b
  omega

/-- The kernel's last values are the reference's. -/
theorem last_eq : tile (F := Ideal) (n := 256) k0_pay4 X = ReferenceIdeal.Read.last X := by
  funext j
  idx_vars j
  rw [ReferenceIdeal.Read.last_at, ← pair_window X j0 (by omega) (by omega)]
  exact Block.last_at _ _ _ _

/-- The kernel's means are the reference's. -/
theorem mean_eq : tile (F := Ideal) (n := 256) k0_pay6 X = ReferenceIdeal.Read.mean X := by
  funext j
  idx_vars j
  rw [ReferenceIdeal.Read.mean_at, ← pair_window X j0 (by omega) (by omega)]
  exact Block.mean_at _ _ _ _

/-- The kernel's spreads are the reference's. -/
theorem spread_eq : tile (F := Ideal) (n := 256) k0_pay7 X = ReferenceIdeal.Read.spread X := by
  funext j
  idx_vars j
  rw [ReferenceIdeal.Read.spread_at, ← pair_window X j0 (by omega) (by omega)]
  exact Block.spread_at _ _ _ _

/-- The second result: the kernel's features are the reference's. -/
theorem features_eq : Arrays.features (F := Ideal) X = ReferenceIdeal.Read.features X := by
  unfold Arrays.features
  rw [last_eq, mean_eq, spread_eq]
  rfl

/-- The host lines read the bins at the window's row and widen them. -/
theorem binsOf_at (B : IVec S64x4096x64 8) (b : Fin 64) (w : Fin 256) (s : Fin 64) (k : Fin 15) :
    binsOf B (ix4 b w s k) = (B (ix3 b (Spec.row w ⟨(k : Nat), by omega⟩) s)).signExtend 32 := by
  pointwise [binsOf]
  rfl

/-- The first result: the kernel's bins are the reference's. -/
theorem bins_eq : Arrays.bins (F := Ideal) X = ReferenceIdeal.Read.bins X := by
  funext j
  idx_vars j
  rw [ReferenceIdeal.Read.bins_at, ← Bins.byte_eq_tally, ← pair_window X j0 (by omega) (by omega)]
  unfold Arrays.bins
  rw [binsOf_at]
  exact congrArg (BitVec.signExtend 32) (Block.bin_at _ _ _ _ _)

end Cert.Equation

end
-- ==== Proof.lean ====
/-
  The proof of the certificate's five claims (stated in Defs.lean): the kernel program and its reading over the extended
  reals run to the end and leave the argument unchanged, so does the reference, no operation was rewritten, and over the
  extended reals the kernel's two results are the reference's. The modules of Proof/ carry the mathematics: Bins.lean
  (the bin numbers), Spec.lean (step, mean, spread), Block.lean (what the body computes), Arrays.lean (what the output
  arrays hold), KernelRun.lean (the kernel's run), Reference.lean (what the reference computes), Equation.lean (the two
  agree). This file assembles them.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel program runs and leaves its argument alone. -/
theorem frame_kernel : Cert.quiescent_Kernel := fun m ρ _ => Cert.Kernel.Gen.frame m ρ

/-- The kernel program read over the extended reals runs and leaves its argument alone. -/
theorem frame_kernelIdeal : Cert.quiescent_KernelIdeal := fun m ρ _ => Cert.KernelIdeal.Gen.frame m ρ

/-- The reference runs and leaves its argument alone; it has no semaphore. -/
theorem frame_reference : Cert.quiescent_ReferenceIdeal := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

/-- No operation was rewritten. -/
theorem preserves : Cert.preserves_Kernel_KernelIdeal := trivial

/-- Over the extended reals the kernel and the reference end with the same bins and the same features, whatever the
    argument. -/
theorem algebraic : Cert.algebraic_KernelIdeal_ReferenceIdeal := by
  intro m ρ m' ρ' _ hagree
  refine ⟨fun c => Cert.KernelIdeal.Arrays.bins (F := Ideal) (Cert.KernelIdeal.Arrays.arg m c),
    fun c => Cert.KernelIdeal.Arrays.features (F := Ideal) (Cert.KernelIdeal.Arrays.arg m c),
    Cert.KernelIdeal.Arrays.run (F := Ideal) m ρ, ?_⟩
  refine (θ_run Cert.ReferenceIdeal.defs _ _).mono
    (fun _ h c => ⟨(h c).1.trans ?_, (h c).2.1.trans ?_, (h c).2.2⟩)
    (Cert.ReferenceIdeal.Value.run (F := Ideal) m' ρ')
  · rw [hagree c]
    exact (Cert.Equation.bins_eq (Cert.KernelIdeal.Arrays.arg m c)).symm
  · rw [hagree c]
    exact (Cert.Equation.features_eq (Cert.KernelIdeal.Arrays.arg m c)).symm

/-- Every claim of the certificate. -/
theorem claim : Cert.Claim :=
  ⟨Cert.Kernel.Gen.facts, Cert.KernelIdeal.Gen.facts, Cert.ReferenceIdeal.Gen.facts,
    frame_kernel, frame_kernelIdeal, frame_reference, preserves, algebraic⟩

end Cert.Proof

end
